-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x12288x1008 : Shape := ⟨3, ![32, 12288, 1008]⟩
abbrev S_ : Shape := ⟨0, ![]⟩
abbrev S32x12288x832 : Shape := ⟨3, ![32, 12288, 832]⟩
abbrev S1008x832 : Shape := ⟨2, ![1008, 832]⟩
abbrev S32x1008x12288 : Shape := ⟨3, ![32, 1008, 12288]⟩
abbrev S32x832x12288 : Shape := ⟨3, ![32, 832, 12288]⟩
abbrev S1 : Shape := ⟨1, ![1]⟩
abbrev S832x1008 : Shape := ⟨2, ![832, 1008]⟩
abbrev S1x1 : Shape := ⟨2, ![1, 1]⟩
abbrev S1x832x2048 : Shape := ⟨3, ![1, 832, 2048]⟩
abbrev S1x1008x2048 : Shape := ⟨3, ![1, 1008, 2048]⟩
abbrev S832x2048 : Shape := ⟨2, ![832, 2048]⟩
abbrev S1008x2048 : Shape := ⟨2, ![1008, 2048]⟩
abbrev S1x832x1008 : Shape := ⟨3, ![1, 832, 1008]⟩
abbrev S1x1x1 : Shape := ⟨3, ![1, 1, 1]⟩

abbrev nBuf : Space → Nat
  | .hbm => 14
  | .vmem => 6
  | .smem => 2
  | _ => 0

abbrev bufTy : (tb : Table) → Fin (tcTables nBuf tb) → BufTy
  | .hbm, ⟨0, _⟩ => ⟨S32x12288x1008, .fp8e4m3⟩
  | .hbm, ⟨1, _⟩ => ⟨S_, .f32⟩
  | .hbm, ⟨2, _⟩ => ⟨S32x12288x832, .fp8e5m2⟩
  | .hbm, ⟨3, _⟩ => ⟨S_, .f32⟩
  | .hbm, ⟨4, _⟩ => ⟨S1008x832, .f32⟩
  | .hbm, ⟨5, _⟩ => ⟨S32x1008x12288, .fp8e4m3⟩
  | .hbm, ⟨6, _⟩ => ⟨S32x832x12288, .fp8e5m2⟩
  | .hbm, ⟨7, _⟩ => ⟨S_, .f32⟩
  | .hbm, ⟨8, _⟩ => ⟨S1, .f32⟩
  | .hbm, ⟨9, _⟩ => ⟨S832x1008, .f32⟩
  | .hbm, ⟨10, _⟩ => ⟨S832x1008, .f32⟩
  | .hbm, ⟨11, _⟩ => ⟨S1x1, .f32⟩
  | .hbm, ⟨12, _⟩ => ⟨S1008x832, .f32⟩
  | .hbm, ⟨13, _⟩ => ⟨S_, .f32⟩
  | .local _ .vmem, ⟨0, _⟩ => ⟨S1x832x2048, .fp8e5m2⟩
  | .local _ .vmem, ⟨1, _⟩ => ⟨S1x832x2048, .fp8e5m2⟩
  | .local _ .vmem, ⟨2, _⟩ => ⟨S1x1008x2048, .fp8e4m3⟩
  | .local _ .vmem, ⟨3, _⟩ => ⟨S1x1008x2048, .fp8e4m3⟩
  | .local _ .vmem, ⟨4, _⟩ => ⟨S832x1008, .f32⟩
  | .local _ .vmem, ⟨5, _⟩ => ⟨S832x1008, .f32⟩
  | .local _ .smem, ⟨0, _⟩ => ⟨S1, .f32⟩
  | .local _ .smem, ⟨1, _⟩ => ⟨S1x1, .f32⟩
  | _, _ => ⟨S32x12288x1008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v7 : BitVec 1 := Scalar.cmpi .eq v1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32_6 : BitVec 32 := 0#32
  let v10 : BitVec 1 := Scalar.cmpi .sgt v1 c0_i32_6
  let v11 : BitVec 32 := Scalar.extui v10
  let c0_i32_7 : BitVec 32 := 0#32
  let v12 : BitVec 1 := Scalar.cmpi .ne v11 c0_i32_7
  v12

def k0_cond3 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c191_i32 : BitVec 32 := 191#32
  let v13 : BitVec 1 := Scalar.cmpi .eq v1 c191_i32
  let v14 : BitVec 32 := Scalar.extui v13
  let c0_i32_8 : BitVec 32 := 0#32
  let v15 : BitVec 1 := Scalar.cmpi .ne v14 c0_i32_8
  v15

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x832x2048 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1008x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S832x1008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S832x1008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S32x12288x1008 : Shape := ⟨3, ![32, 12288, 1008]⟩
abbrev S_ : Shape := ⟨0, ![]⟩
abbrev S32x12288x832 : Shape := ⟨3, ![32, 12288, 832]⟩
abbrev S1008x832 : Shape := ⟨2, ![1008, 832]⟩

abbrev nBuf : Space → Nat
  | .hbm => 15
  | .vmem => 4
  | .smem => 0
  | _ => 0

abbrev bufTy : (tb : Table) → Fin (tcTables nBuf tb) → BufTy
  | .hbm, ⟨0, _⟩ => ⟨S32x12288x1008, .fp8e4m3⟩
  | .hbm, ⟨1, _⟩ => ⟨S_, .f32⟩
  | .hbm, ⟨2, _⟩ => ⟨S32x12288x832, .fp8e5m2⟩
  | .hbm, ⟨3, _⟩ => ⟨S_, .f32⟩
  | .hbm, ⟨4, _⟩ => ⟨S1008x832, .f32⟩
  | .hbm, ⟨5, _⟩ => ⟨S32x12288x1008, .bf16⟩
  | .hbm, ⟨6, _⟩ => ⟨S32x12288x832, .bf16⟩
  | .hbm, ⟨7, _⟩ => ⟨S1008x832, .f32⟩
  | .hbm, ⟨8, _⟩ => ⟨S_, .f32⟩
  | .hbm, ⟨9, _⟩ => ⟨S1008x832, .f32⟩
  | .hbm, ⟨10, _⟩ => ⟨S1008x832, .f32⟩
  | .hbm, ⟨11, _⟩ => ⟨S1008x832, .f32⟩
  | .hbm, ⟨12, _⟩ => ⟨S_, .f32⟩
  | .hbm, ⟨13, _⟩ => ⟨S_, .f32⟩
  | .hbm, ⟨14, _⟩ => ⟨S1008x832, .f32⟩
  | .local _ .vmem, ⟨0, _⟩ => ⟨S32x12288x1008, .fp8e4m3⟩
  | .local _ .vmem, ⟨1, _⟩ => ⟨S32x12288x832, .fp8e5m2⟩
  | .local _ .vmem, ⟨2, _⟩ => ⟨S32x12288x1008, .bf16⟩
  | .local _ .vmem, ⟨3, _⟩ => ⟨S32x12288x832, .bf16⟩
  | _, _ => ⟨S32x12288x1008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x12288x1008 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x12288x832 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x12288x1008 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x12288x832 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelBody.lean ====
/-
  What one execution of the kernel's body leaves in its output windows, as values of the blocks it reads: the first grid
  point stores the block product; every later point adds its block product to the accumulator; the last point adds its
  product, takes the amax of the scaled accumulator, and leaves the fresh main-grad in the output.
-/
module

public import proofs.«01_k».proof.Proof.Gen.KernelIdeal.Frame
public import Idealize.ShloMosaic.Lib.Pipeline.Value
public import Idealize.ShloMosaic.Lib.ValueIdxCore

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- The zero offsets of a rank-1 block. -/
theorem hz1 : (![0] : Fin 1 → Nat) = fun _ => 0 := funext fun a => by fin_cases a; rfl
/-- The zero offsets of a rank-2 block. -/
theorem hz2 : (![0, 0] : Fin 2 → Nat) = fun _ => 0 := funext fun a => by fin_cases a <;> rfl
/-- The zero offsets of a rank-3 block. -/
theorem hz3 : (![0, 0, 0] : Fin 3 → Nat) = fun _ => 0 := funext fun a => by fin_cases a <;> rfl

/-- The one-element scale block, read at its one element. -/
theorem ld_scale (x0 : Vec F S1 .f32) (h : 0 < (Rect.unit (s := S1) ![0] ![1] inb_S1_S1_0).shape.numel) :
    View.ld x0 (Rect.unit (s := S1) ![0] ![1] inb_S1_S1_0) (Shape.Idx.first h) = x0 (ValueIdx.ix1 0) := by
  refine congrArg x0 (funext fun a => Fin.ext ?_)
  match a with
  | ⟨0, _⟩ => rfl

section
variable (c : Dev nD) (i : grid0.Coords) (arg2 : Memref sig .tc .smem S1 .f32) (harg2 : arg2.IsWhole)
  (arg3 : Memref sig .tc .vmem S1x832x2048 .fp8e5m2) (harg3 : arg3.IsWhole)
  (arg4 : Memref sig .tc .vmem S1x1008x2048 .fp8e4m3) (harg4 : arg4.IsWhole)
  (arg5 : Memref sig .tc .vmem S832x1008 .f32) (harg5 : arg5.IsWhole)
  (arg6 : Memref sig .tc .vmem S832x1008 .f32) (harg6 : arg6.IsWhole)
  (arg7 : Memref sig .tc .smem S1x1 .f32) (harg7 : arg7.IsWhole)
  (x0 : Vec F S1 .f32) (x1 : Vec F S1x832x2048 .fp8e5m2) (x2 : Vec F S1x1008x2048 .fp8e4m3)
  (x3 : Vec F S832x1008 .f32) (xo4 : Vec F S832x1008 .f32)

/-- At the first grid point the accumulator is left at the block product. -/
theorem out_A_4 (hc0 : cond0_0 i) (hc1 : ¬cond0_1 i) (hc2 : ¬cond0_2 i) :
    out0_A_4 c i arg2 harg2 arg3 harg3 arg4 harg4 arg5 harg5 arg6 harg6 arg7 harg7 hc0 hc1 hc2 x0 x1 x2 x3 = k0_pay1 x1 x2 := by
  unfold out0_A_4
  rw [View.read_writes_eq_canon _ _ _ (cover0_A_4 c i arg2 harg2 arg3 harg3 arg4 harg4 arg5 harg5 arg6 harg6 arg7 harg7 hc0 hc1 hc2 x0 x1 x2 x3)]
  unfold kernelRun0_A
  dsimp only
  sl_unfold_words
  rw [View.canon_unit_zero hz2]
  simp only [View.readAt_eq_ld, harg3.read_unread, harg4.read_unread, View.ld_unit_zero (S := S1x832x2048) hz3, View.ld_unit_zero (S := S1x1008x2048) hz3]

/-- At a middle grid point the block product is added to what the accumulator held. -/
theorem out_B_4 (hc0 : ¬cond0_0 i) (hc1 : cond0_1 i) (hc2 : ¬cond0_2 i) :
    out0_B_4 c i arg2 harg2 arg3 harg3 arg4 harg4 arg5 harg5 arg6 harg6 arg7 harg7 hc0 hc1 hc2 x0 x1 x2 x3 xo4 = k0_pay2 x1 x2 xo4 := by
  unfold out0_B_4
  rw [View.read_writes_eq_canon _ _ _ (cover0_B_4 c i arg2 harg2 arg3 harg3 arg4 harg4 arg5 harg5 arg6 harg6 arg7 harg7 hc0 hc1 hc2 x0 x1 x2 x3 xo4)]
  unfold kernelRun0_B
  dsimp only
  sl_unfold_words
  rw [View.canon_unit_zero hz2]
  simp only [View.readAt_eq_ld, harg3.read_unread, harg4.read_unread, harg6.read_unread, View.ld_unit_zero (S := S1x832x2048) hz3, View.ld_unit_zero (S := S1x1008x2048) hz3, View.ld_unit_zero (S := S832x1008) hz2]

/-- At the last grid point the output is left at the old main-grad plus the accumulator, last block product included,
    times the scale. -/
theorem out_C_4 (hc0 : ¬cond0_0 i) (hc1 : cond0_1 i) (hc2 : cond0_2 i) :
    out0_C_4 c i arg2 harg2 arg3 harg3 arg4 harg4 arg5 harg5 arg6 harg6 arg7 harg7 hc0 hc1 hc2 x0 x1 x2 x3 xo4
      = k0_pay5 (k0_pay2 x1 x2 xo4) (x0 (ValueIdx.ix1 0)) x3 := by
  unfold out0_C_4
  rw [View.read_writes_eq_canon _ _ _ (cover0_C_4 c i arg2 harg2 arg3 harg3 arg4 harg4 arg5 harg5 arg6 harg6 arg7 harg7 hc0 hc1 hc2 x0 x1 x2 x3 xo4)]
  unfold kernelRun0_C
  dsimp only
  sl_unfold_words
  rw [View.canon_cons_unit_zero (S := S832x1008) hz2]
  simp only [View.readAt_eq_ld, harg2.read_unread, harg3.read_unread, harg4.read_unread, harg5.read_unread, harg6.read_unread, View.ld_unit_zero (S := S1) hz1, View.ld_unit_zero (S := S1x832x2048) hz3, View.ld_unit_zero (S := S1x1008x2048) hz3, View.ld_unit_zero (S := S832x1008) hz2]
  rw [View.readCov_unit_zero (S := S832x1008) _ hz2, ld_scale]

/-- At the last grid point the amax cell is left at the greatest magnitude of the scaled accumulator. -/
theorem out_C_5 (hc0 : ¬cond0_0 i) (hc1 : cond0_1 i) (hc2 : cond0_2 i) :
    out0_C_5 c i arg2 harg2 arg3 harg3 arg4 harg4 arg5 harg5 arg6 harg6 arg7 harg7 hc0 hc1 hc2 x0 x1 x2 x3 xo4
      = fun _ => k0_pay4 (k0_pay2 x1 x2 xo4) (x0 (ValueIdx.ix1 0)) := by
  unfold out0_C_5
  rw [View.read_writes_eq_canon _ _ _ (cover0_C_5 c i arg2 harg2 arg3 harg3 arg4 harg4 arg5 harg5 arg6 harg6 arg7 harg7 hc0 hc1 hc2 x0 x1 x2 x3 xo4)]
  unfold kernelRun0_C
  dsimp only
  sl_unfold_words
  rw [View.canon_unit_zero (S := S1x1) hz2]
  simp only [View.readAt_eq_ld, harg2.read_unread, harg3.read_unread, harg4.read_unread, harg5.read_unread, harg6.read_unread, View.ld_unit_zero (S := S1) hz1, View.ld_unit_zero (S := S1x832x2048) hz3, View.ld_unit_zero (S := S1x1008x2048) hz3, View.ld_unit_zero (S := S832x1008) hz2]
  rw [View.readCov_unit_zero (S := S832x1008) _ hz2, ld_scale]
  rfl

end

end Cert.KernelIdeal.Value

end
-- ==== Proof.Spec.lean ====
/-
  The mathematics both programs compute, over the extended reals: the weight gradient summed over batch and token, scaled,
  added to the old main-grad; and the greatest magnitude of the scaled gradient.
-/
module

public import Idealize.ShloMosaic.PureOps.Ideal.Laws
public import Idealize.ShloMosaic.Lib.ValueIdxCore
public import Idealize.ShloMosaic.Lib.ValueLayout

@[expose] public section

noncomputable section

namespace Cert.Spec

open Idealize.ShloMosaic Idealize.ShloMosaic.ValueIdx
open scoped BigOperators

/-- `∑_b ∑_t x[b,t,i] · dy[b,t,o]`, the unscaled weight gradient at `(i, o)`. -/
def dot (x : (⟨3, ![32, 12288, 1008]⟩ : Shape).Idx → EReal) (dy : (⟨3, ![32, 12288, 832]⟩ : Shape).Idx → EReal)
    (i : Fin 1008) (o : Fin 832) : EReal :=
  ∑ b : Fin 32, ∑ t : Fin 12288, x (ix3 b t i) * dy (ix3 b t o)

/-- The scaled weight gradient at `(i, o)`. -/
def grad (x : (⟨3, ![32, 12288, 1008]⟩ : Shape).Idx → EReal) (sx : (⟨0, ![]⟩ : Shape).Idx → EReal)
    (dy : (⟨3, ![32, 12288, 832]⟩ : Shape).Idx → EReal) (sdy : (⟨0, ![]⟩ : Shape).Idx → EReal)
    (i : Fin 1008) (o : Fin 832) : EReal :=
  dot x dy i o * (sx ix0 * sdy ix0)

/-- The new main-grad. -/
def mainGrad (x : (⟨3, ![32, 12288, 1008]⟩ : Shape).Idx → EReal) (sx : (⟨0, ![]⟩ : Shape).Idx → EReal)
    (dy : (⟨3, ![32, 12288, 832]⟩ : Shape).Idx → EReal) (sdy : (⟨0, ![]⟩ : Shape).Idx → EReal)
    (g : (⟨2, ![1008, 832]⟩ : Shape).Idx → EReal) : (⟨2, ![1008, 832]⟩ : Shape).Idx → EReal :=
  fun j => g j + grad x sx dy sdy (j 0) (j 1)

/-- The magnitude of an extended real, `max a (-a)`. -/
def mag (a : EReal) : EReal := max a (-a)

/-- The greatest magnitude of the scaled weight gradient, started from `-∞`. -/
def amax (x : (⟨3, ![32, 12288, 1008]⟩ : Shape).Idx → EReal) (sx : (⟨0, ![]⟩ : Shape).Idx → EReal)
    (dy : (⟨3, ![32, 12288, 832]⟩ : Shape).Idx → EReal) (sdy : (⟨0, ![]⟩ : Shape).Idx → EReal) : EReal :=
  (Finset.univ : Finset (Fin 1008 × Fin 832)).fold max (FloatOps.ofBits (F := Ideal) .f32 0xFF800000#32 : EReal)
    fun p => mag (grad x sx dy sdy p.1 p.2)

/-- A fold of `max` over a whole finite type, re-indexed by a bijection. -/
theorem fold_max_equiv {α β : Type} [Fintype α] [Fintype β] (e : α ≃ β) (z : EReal) (f : β → EReal) :
    (Finset.univ : Finset α).fold max z (fun a => f (e a)) = (Finset.univ : Finset β).fold max z f := by
  rw [← Finset.map_univ_equiv e, Finset.fold_map]
  rfl

/-- A sum over the grid's 192 points and a point's 2048 tokens, each point `s` taking batch `s / 6` and tokens
    `2048 · (s % 6) + k`, is the sum over batch and token. -/
theorem sum_points (f : Fin 32 → Fin 12288 → EReal) :
    ∑ s : Fin 192, ∑ k : Fin 2048, f ⟨s.val / 6, by omega⟩ ⟨2048 * (s.val % 6) + k.val, by omega⟩
      = ∑ b : Fin 32, ∑ t : Fin 12288, f b t := by
  have e1 : ∀ b : Fin 32, ∑ t : Fin 12288, f b t
      = ∑ j : Fin 6, ∑ k : Fin 2048, f b ⟨2048 * j.val + k.val, by omega⟩ := fun b => by
    rw [← Equiv.sum_comp (finProdFinEquiv (m := 6) (n := 2048)) (fun t => f b t), Fintype.sum_prod_type]
    refine Finset.sum_congr rfl fun j _ => Finset.sum_congr rfl fun k _ => congrArg (f b) (Fin.ext ?_)
    simp [finProdFinEquiv]; omega
  rw [Finset.sum_congr rfl fun b _ => e1 b]
  rw [← Equiv.sum_comp (finProdFinEquiv (m := 32) (n := 6))
    (fun s : Fin 192 => ∑ k : Fin 2048, f ⟨s.val / 6, by omega⟩ ⟨2048 * (s.val % 6) + k.val, by omega⟩), Fintype.sum_prod_type]
  refine Finset.sum_congr rfl fun b _ => Finset.sum_congr rfl fun j _ => Finset.sum_congr rfl fun k _ => ?_
  have h : (finProdFinEquiv (m := 32) (n := 6) (b, j)).val = j.val + 6 * b.val := rfl
  have hj := j.isLt
  congr 1
  · exact Fin.ext (by show (finProdFinEquiv (m := 32) (n := 6) (b, j)).val / 6 = _; omega)
  · exact Fin.ext (by show 2048 * ((finProdFinEquiv (m := 32) (n := 6) (b, j)).val % 6) + k.val = 2048 * j.val + k.val; omega)

end Cert.Spec

end
-- ==== Proof.KernelPoint.lean ====
/-
  The kernel body's arithmetic read element by element over the extended reals: the block product is a sum over the
  block's 2048 tokens, and the last point's output and amax are pointwise in the accumulator.
-/
module

public import proofs.«01_k».proof.Proof.Spec
public import proofs.«01_k».proof.Proof.Gen.KernelIdeal.Skeleton
public import Idealize.ShloMosaic.Lib.MatmulPlain
public import Idealize.ShloMosaic.Lib.ValueLayout
public import Idealize.ShloMosaic.Lib.Pipeline.Value

@[expose] public section

noncomputable section

namespace Cert.KernelIdeal.Value

open Cert.KernelIdeal Cert.KernelIdeal.Gen Idealize.ShloMosaic Idealize.ShloMosaic.ValueIdx
open scoped BigOperators

/-- The block product at `(o, i)`: the sum over the block's tokens of gradient times activation. -/
theorem pay1_apply (dy : Vec Ideal S1x832x2048 .fp8e5m2) (x : Vec Ideal S1x1008x2048 .fp8e4m3) (o : Fin 832) (i : Fin 1008) :
    k0_pay1 dy x (ix2 o i) = ∑ k : Fin 2048, (dy (ix3 0 o k) * x (ix3 0 i k) : EReal) := by
  unfold k0_pay1
  refine (Ideal.matmul_transposedRhs_apply (M := 832) (K := 2048) (N := 1008) none _ _ _ o i).trans ?_
  rw [show (constant S832x1008 .f32 0x00000000#32 : FVec Ideal S832x1008 .f32) (ix2 o i) = (0 : EReal) from by
    exact Ideal.ofBits_zero_f32]
  rw [zero_add]
  refine Finset.sum_congr rfl fun k _ => ?_
  exact congrArg₂ (· * ·) (shapeCast_1ab_ab_apply dy _ o k) (shapeCast_1ab_ab_apply x _ i k)

/-- The accumulating point at `(o, i)`: what was held, plus the block product. -/
theorem pay2_apply (dy : Vec Ideal S1x832x2048 .fp8e5m2) (x : Vec Ideal S1x1008x2048 .fp8e4m3) (a : Vec Ideal S832x1008 .f32)
    (o : Fin 832) (i : Fin 1008) :
    k0_pay2 dy x a (ix2 o i) = (a (ix2 o i) + ∑ k : Fin 2048, (dy (ix3 0 o k) * x (ix3 0 i k) : EReal) : EReal) := by
  rw [← pay1_apply]
  unfold k0_pay2
  simp only [shapeCast_self]
  rfl

/-- The scaled accumulator. -/
theorem pay3_apply (a : Vec Ideal S832x1008 .f32) (s : Elt Ideal .f32) (j : S832x1008.Idx) :
    k0_pay3 a s j = (a j * s : EReal) := by
  unfold k0_pay3
  simp only [shapeCast_self]
  rfl

/-- The last point's output: the old main-grad plus the scaled accumulator. -/
theorem pay5_apply (a : Vec Ideal S832x1008 .f32) (s : Elt Ideal .f32) (g : Vec Ideal S832x1008 .f32) (j : S832x1008.Idx) :
    k0_pay5 a s g j = (g j + a j * s : EReal) := by
  unfold k0_pay5
  simp only [shapeCast_self]
  show (g j + k0_pay3 a s j : EReal) = _
  rw [pay3_apply]

/-- The indices of a `[1, 832, 1008]` array as pairs (activation column, gradient column). -/
def pairs : S1x832x1008.Idx ≃ Fin 1008 × Fin 832 where
  toFun j := (j 2, j 1)
  invFun p := ix3 0 p.2 p.1
  left_inv j := by
    have h : (0 : Fin 1) = j 0 := Subsingleton.elim (α := Fin 1) _ _
    show ix3 0 (j 1) (j 2) = j
    rw [h]; exact (eq_ix3 j).symm
  right_inv _ := rfl

/-- All indices of a one-element vector are equal. -/
theorem idx1_eq (a b : S1.Idx) : a = b := by
  funext d
  match d with
  | ⟨0, _⟩ => exact Subsingleton.elim (α := Fin 1) _ _

/-- A maximum over a `[1, 832, 1008]` array, started from `-∞`, is the fold of `max` over the pairs of columns. -/
theorem maxred_eq (v : FVec Ideal S832x1008 .f32) (hφ : FKind.Formats .f32) (hacc : (0xFF800000#32 : BitVec 32) = FKind.maximumf.neutral .f32 hφ)
    (j : S1.Idx) :
    multiReduction .maximumf [1, 2] S1 (shapeCast S1x832x1008 v shapeCasts_S832x1008_S1x832x1008) 0xFF800000#32
        reduces_S1x832x1008_S1 hφ hacc j
      = (Finset.univ : Finset (Fin 1008 × Fin 832)).fold max
        (FloatOps.ofBits (F := Ideal) .f32 0xFF800000#32 : EReal) fun p => (v (ix2 p.2 p.1) : EReal) := by
  refine (multiReduction_maximumf_eq_fold _ _ _ hφ hacc j).trans ?_
  rw [Finset.filter_true_of_mem (fun i _ => idx1_eq _ _), ← Spec.fold_max_equiv pairs]
  refine Finset.fold_congr fun i _ => ?_
  obtain ⟨p, rfl⟩ := pairs.symm.surjective i
  refine (shapeCast_ab_1ab_apply v _ _ p.2 p.1).trans ?_
  rw [Equiv.apply_symm_apply]

/-- The one element of a one-element vector, however reshaped, is one of its elements. -/
theorem extract_eq (v : FVec Ideal S1 .f32) :
    ∃ j, extractAt ![0, 0, 0] (shapeCast S1x1x1 v shapeCasts_S1_S1x1x1) inpos_S1x1x1_p0_0_0 = v j := ⟨_, rfl⟩

/-- The last point's amax: the greatest magnitude of the scaled accumulator, started from `-∞`. -/
theorem pay4_eq (a : Vec Ideal S832x1008 .f32) (s : Elt Ideal .f32) :
    (k0_pay4 a s : EReal) = (Finset.univ : Finset (Fin 1008 × Fin 832)).fold max
      (FloatOps.ofBits (F := Ideal) .f32 0xFF800000#32 : EReal) fun p => Spec.mag (a (ix2 p.2 p.1) * s : EReal) := by
  unfold k0_pay4
  obtain ⟨j, hj⟩ := extract_eq (multiReduction .maximumf [1, 2] S1 (shapeCast S1x832x1008 (absf (k0_pay3 a s)) shapeCasts_S832x1008_S1x832x1008)
    0xFF800000#32 reduces_S1x832x1008_S1 (.inl rfl) rfl)
  refine hj.trans ((maxred_eq (absf (k0_pay3 a s)) _ _ j).trans (Finset.fold_congr fun p _ => ?_))
  show Spec.mag (k0_pay3 a s (ix2 p.2 p.1)) = _
  rw [pay3_apply]

end Cert.KernelIdeal.Value

end
-- ==== Proof.KernelBlocks.lean ====
/-
  What the kernel's windows read: the arrays the host prepares (two transposes, the product of the scales, the transposed
  main-grad) in terms of the arguments, and each window's block at a grid point in terms of those arrays. Grid point `t`
  is batch `t / 6`, tokens `2048 · (t % 6)` and on.
-/
module

public import proofs.«01_k».proof.Proof.Gen.KernelIdeal.Frame
public import Idealize.ShloMosaic.Lib.Pipeline.Value
public import Idealize.ShloMosaic.Lib.StableHlo.Run
public import Idealize.ShloMosaic.Lib.ValueIdxCore
public import Idealize.ShloMosaic.Lib.ValueLayout
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable {F : FTy → Type} [FloatOps F]
variable (m : (ℓ : Loc nD τ sig) → Buf (Elt F) ℓ)

/-- The activations as the region finds them: the argument with its last two axes swapped. -/
theorem V_x (c : Dev nD) : V m c main_v0
    = transpose S32x1008x12288 [0, 2, 1] (m ((c : Thread nD τ).loc main_arg0)) transposes_S32x12288x1008_S32x1008x12288_0_2_1 := by
  unfold V V0
  simp only [List.flatten_cons, List.flatten_nil, List.append_nil]
  after_results

/-- The gradients as the region finds them: the argument with its last two axes swapped. -/
theorem V_dy (c : Dev nD) : V m c main_v1
    = transpose S32x832x12288 [0, 2, 1] (m ((c : Thread nD τ).loc main_arg2)) transposes_S32x12288x832_S32x832x12288_0_2_1 := by
  unfold V V0
  simp only [List.flatten_cons, List.flatten_nil, List.append_nil]
  after_results

/-- The scale the region finds: the product of the two scale arguments, as a one-element vector. -/
theorem V_s (c : Dev nD) : V m c main_v3
    = shapeCast S1 (mulf (m ((c : Thread nD τ).loc main_arg1)) (m ((c : Thread nD τ).loc main_arg3))) shapeCasts_S_S1 := by
  unfold V V0
  simp only [List.flatten_cons, List.flatten_nil, List.append_nil]
  after_results
  rfl

/-- The main-grad as the region finds it: the argument transposed. -/
theorem V_g (c : Dev nD) : V m c main_v4
    = transpose S832x1008 [1, 0] (m ((c : Thread nD τ).loc main_arg4)) transposes_S1008x832_S832x1008_1_0 := by
  unfold V V0
  simp only [List.flatten_cons, List.flatten_nil, List.append_nil]
  after_results

/-- The block indices of the input windows at point `t`. -/
theorem idx_facts : ∀ t : Fin cfg0.N,
    win0_0.index t (0 : Fin 1) = 0
    ∧ (win0_1.index t (0 : Fin 3) = t.val / 6 ∧ win0_1.index t (1 : Fin 3) = 0 ∧ win0_1.index t (2 : Fin 3) = t.val % 6)
    ∧ (win0_2.index t (0 : Fin 3) = t.val / 6 ∧ win0_2.index t (1 : Fin 3) = 0 ∧ win0_2.index t (2 : Fin 3) = t.val % 6)
    ∧ (win0_3.index t (0 : Fin 2) = 0 ∧ win0_3.index t (1 : Fin 2) = 0) :=
  (by decide +kernel : ∀ t : Fin grid0.N, _)

/-- There are 192 grid points. -/
theorem lt192 (t : Fin cfg0.N) : t.val < 192 := lt_of_lt_of_eq t.isLt (show cfg0.N = 192 from N_0)

/-- The gradient block at point `t`, element by element of the argument. -/
theorem blk_dy (c : Dev nD) (t : Fin cfg0.N) (o : Fin 832) (k : Fin 2048) :
    iblk m c 1 t (ix3 0 o k) = m ((c : Thread nD τ).loc main_arg2)
      (ix3 ⟨t.val / 6, by have := lt192 t; omega⟩ ⟨2048 * (t.val % 6) + k.val, by omega⟩ o) := by
  obtain ⟨-, ⟨h0, h1, h2⟩, -, -⟩ := idx_facts t
  have ht := lt192 t
  unfold iblk
  rw [View.read_apply]
  show V m c main_v1 _ = _
  rw [V_dy]
  refine Eq.trans (congrArg _ ?_) (transpose_ix3_021_apply _ _ ⟨t.val / 6, by omega⟩ o ⟨2048 * (t.val % 6) + k.val, by omega⟩)
  funext a
  apply Fin.ext
  match a with
  | ⟨0, _⟩ => show win0_1.index t (0 : Fin 3) * 1 + 1 * 0 = t.val / 6; omega
  | ⟨1, _⟩ => show win0_1.index t (1 : Fin 3) * 832 + 1 * o.val = o.val; omega
  | ⟨2, _⟩ => show win0_1.index t (2 : Fin 3) * 2048 + 1 * k.val = 2048 * (t.val % 6) + k.val; omega

/-- The activation block at point `t`, element by element of the argument. -/
theorem blk_x (c : Dev nD) (t : Fin cfg0.N) (i : Fin 1008) (k : Fin 2048) :
    iblk m c 2 t (ix3 0 i k) = m ((c : Thread nD τ).loc main_arg0)
      (ix3 ⟨t.val / 6, by have := lt192 t; omega⟩ ⟨2048 * (t.val % 6) + k.val, by omega⟩ i) := by
  obtain ⟨-, -, ⟨h0, h1, h2⟩, -⟩ := idx_facts t
  have ht := lt192 t
  unfold iblk
  rw [View.read_apply]
  show V m c main_v0 _ = _
  rw [V_x]
  refine Eq.trans (congrArg _ ?_) (transpose_ix3_021_apply _ _ ⟨t.val / 6, by omega⟩ i ⟨2048 * (t.val % 6) + k.val, by omega⟩)
  funext a
  apply Fin.ext
  match a with
  | ⟨0, _⟩ => show win0_2.index t (0 : Fin 3) * 1 + 1 * 0 = t.val / 6; omega
  | ⟨1, _⟩ => show win0_2.index t (1 : Fin 3) * 1008 + 1 * i.val = i.val; omega
  | ⟨2, _⟩ => show win0_2.index t (2 : Fin 3) * 2048 + 1 * k.val = 2048 * (t.val % 6) + k.val; omega

/-- The scale block: the product of the two scales. -/
theorem blk_s (c : Dev nD) (t : Fin cfg0.N) :
    iblk m c 0 t (ix1 0) = FloatOps.mulf (m ((c : Thread nD τ).loc main_arg1) ix0) (m ((c : Thread nD τ).loc main_arg3) ix0) := by
  unfold iblk
  rw [View.read_apply]
  show V m c main_v3 _ = _
  rw [V_s]
  exact congrArg (mulf (m ((c : Thread nD τ).loc main_arg1)) (m ((c : Thread nD τ).loc main_arg3))) (eq_ix0 _)

/-- The main-grad block: the whole argument, transposed. -/
theorem blk_g (c : Dev nD) (t : Fin cfg0.N) (o : Fin 832) (i : Fin 1008) :
    iblk m c 3 t (ix2 o i) = m ((c : Thread nD τ).loc main_arg4) (ix2 i o) := by
  obtain ⟨-, -, -, h0, h1⟩ := idx_facts t
  unfold iblk
  rw [View.read_apply]
  show V m c main_v4 _ = _
  rw [V_g]
  refine Eq.trans (congrArg _ ?_) (transpose_ix2_apply _ _ o i)
  funext a
  apply Fin.ext
  match a with
  | ⟨0, _⟩ => show win0_3.index t (0 : Fin 2) * 832 + 1 * o.val = o.val; omega
  | ⟨1, _⟩ => show win0_3.index t (1 : Fin 2) * 1008 + 1 * i.val = i.val; omega

end Cert.KernelIdeal.Value

end
-- ==== Proof.KernelFold.lean ====
/-
  The accumulator over the grid, and what the last grid point leaves: after `n` points the accumulator holds the sum of
  the first `n` block products; the last point turns the full sum into the new main-grad and the amax.
-/
module

public import proofs.«01_k».proof.Proof.KernelBody
public import proofs.«01_k».proof.Proof.KernelPoint
public import proofs.«01_k».proof.Proof.KernelBlocks

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-- The activations, the activation scale, the gradients, the gradient scale and the old main-grad, as extended reals. -/
abbrev argX (c : Dev nD) : S32x12288x1008.Idx → EReal := m ((c : Thread nD τ).loc main_arg0)
abbrev argSx (c : Dev nD) : S_.Idx → EReal := m ((c : Thread nD τ).loc main_arg1)
abbrev argDy (c : Dev nD) : S32x12288x832.Idx → EReal := m ((c : Thread nD τ).loc main_arg2)
abbrev argSdy (c : Dev nD) : S_.Idx → EReal := m ((c : Thread nD τ).loc main_arg3)
abbrev argG (c : Dev nD) : S1008x832.Idx → EReal := m ((c : Thread nD τ).loc main_arg4)

/-- The block product of grid point `s` at `(o, i)`, of the arguments. -/
def part (c : Dev nD) (o : Fin 832) (i : Fin 1008) (s : Fin 192) : EReal :=
  ∑ k : Fin 2048, argX m c (ix3 ⟨s.val / 6, by omega⟩ ⟨2048 * (s.val % 6) + k.val, by omega⟩ i)
    * argDy m c (ix3 ⟨s.val / 6, by omega⟩ ⟨2048 * (s.val % 6) + k.val, by omega⟩ o)

/-- The same at a natural number, zero past the grid. -/
def partN (c : Dev nD) (o : Fin 832) (i : Fin 1008) (n : ℕ) : EReal := if h : n < 192 then part m c o i ⟨n, h⟩ else 0

/-- All the block products together are the sum over batch and token. -/
theorem sum_partN (c : Dev nD) (o : Fin 832) (i : Fin 1008) :
    ∑ n ∈ Finset.range 192, partN m c o i n = Spec.dot (argX m c) (argDy m c) i o := by
  rw [Finset.sum_range]
  unfold Spec.dot
  rw [← Spec.sum_points]
  refine Finset.sum_congr rfl fun s _ => ?_
  unfold partN part
  rw [dif_pos s.isLt]

/-- The gradient block and the activation block of point `t`, as extended reals. -/
abbrev blkDy (c : Dev nD) (t : Fin cfg0.N) : S1x832x2048.Idx → EReal := iblk m c 1 t
abbrev blkX (c : Dev nD) (t : Fin cfg0.N) : S1x1008x2048.Idx → EReal := iblk m c 2 t

/-- The body's block product over the blocks of point `t` is that point's term. -/
theorem blocks_part (c : Dev nD) (t : Fin cfg0.N) (o : Fin 832) (i : Fin 1008) :
    ∑ k : Fin 2048, blkDy m c t (ix3 0 o k) * blkX m c t (ix3 0 i k) = partN m c o i t.val := by
  unfold partN part
  rw [dif_pos (lt192 t)]
  refine Finset.sum_congr rfl fun k _ => ?_
  have hd : blkDy m c t (ix3 0 o k) = _ := blk_dy m c t o k
  have hx : blkX m c t (ix3 0 i k) = _ := blk_x m c t i k
  rw [hd, hx]
  exact mul_comm (G := EReal) _ _

/-- After point `n`, short of the last, the accumulator holds the sum of the block products so far. -/
theorem acc_eq (c : Dev nD) (o : Fin 832) (i : Fin 1008) : ∀ (n : ℕ) (h : n < cfg0.N), n < 191 →
    ((outsAt0 m c n h).1 (ix2 o i) : EReal) = ∑ s ∈ Finset.range (n + 1), partN m c o i s
  | 0, h, _ => by
    rw [outsAt0_A m c ⟨0, h⟩ rfl (by dsimp only; omega) (by dsimp only; omega)]
    dsimp only
    rw [out_A_4, Finset.sum_range_one]
    exact (pay1_apply _ _ o i).trans (blocks_part m c ⟨0, h⟩ o i)
  | n + 1, h, hn => by
    have ih := acc_eq c o i n (Nat.lt_of_succ_lt h) (by omega)
    rw [outsAt0_B m c ⟨n + 1, h⟩ (by dsimp only; omega) (by dsimp only; omega) (by dsimp only; omega)]
    dsimp only
    rw [out_B_4, Finset.sum_range_succ, ← ih]
    refine (pay2_apply _ _ _ o i).trans ?_
    exact congrArg (_ + ·) (blocks_part m c ⟨n + 1, h⟩ o i)

/-- The last point's accumulator, its own block product included, is the unscaled weight gradient. -/
theorem acc_last (c : Dev nD) (t : Fin cfg0.N) (ht : t.val = 191) (h : t.val - 1 < cfg0.N) (o : Fin 832) (i : Fin 1008) :
    (k0_pay2 (iblk m c 1 t) (iblk m c 2 t) (outsAt0 m c (t.val - 1) h).1 (ix2 o i) : EReal)
      = Spec.dot (argX m c) (argDy m c) i o := by
  refine (pay2_apply _ _ _ o i).trans ?_
  refine (congrArg₂ (· + ·) (acc_eq m c o i (t.val - 1) h (by omega)) (blocks_part m c t o i)).trans ?_
  rw [← sum_partN, ht]
  exact (Finset.sum_range_succ _ 191).symm

/-- The last point leaves the new main-grad, transposed, in the output. -/
theorem last_4 (c : Dev nD) (t : Fin cfg0.N) (ht : t.val = 191) (o : Fin 832) (i : Fin 1008) :
    ((outsAt0 m c t.val t.isLt).1 (ix2 o i) : EReal)
      = Spec.mainGrad (argX m c) (argSx m c) (argDy m c) (argSdy m c) (argG m c) (ix2 i o) := by
  rw [outsAt0_C m c t (by omega) (by omega) (by omega)]
  dsimp only
  rw [out_C_4]
  refine (pay5_apply _ _ _ _).trans ?_
  rw [acc_last m c t ht, blk_s, blk_g]
  rfl

/-- The last point leaves the greatest magnitude of the scaled weight gradient in the amax cell. -/
theorem last_5 (c : Dev nD) (t : Fin cfg0.N) (ht : t.val = 191) (j : S1x1.Idx) :
    ((outsAt0 m c t.val t.isLt).2 j : EReal) = Spec.amax (argX m c) (argSx m c) (argDy m c) (argSdy m c) := by
  rw [outsAt0_C m c t (by omega) (by omega) (by omega)]
  dsimp only
  rw [out_C_5]
  refine (pay4_eq _ _).trans (Finset.fold_congr fun p _ => ?_)
  rw [acc_last m c t ht, blk_s]
  rfl

end Cert.KernelIdeal.Value

end
-- ==== Proof.KernelRun.lean ====
/-
  What the kernel's program computes, over the extended reals: the region's one write-back per output, at the last grid
  point, writes the whole array; the host then transposes the main-grad and reads the amax cell as a scalar.
-/
module

public import proofs.«01_k».proof.Proof.KernelFold

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo
open scoped BigOperators

variable (m : (ℓ : Loc nD τ sig) → Buf (Elt Ideal) ℓ) (ρ : Dev nD → PrngReg)

/-- The output array: the new main-grad, transposed. -/
abbrev res4 (c : Dev nD) : S832x1008.Idx → EReal := fun j =>
  Spec.mainGrad (argX m c) (argSx m c) (argDy m c) (argSdy m c) (argG m c) (ix2 (j 1) (j 0))

/-- The amax array: its one cell holds the amax. -/
def res5 (c : Dev nD) : S1x1.Idx → EReal := fun _ => Spec.amax (argX m c) (argSx m c) (argDy m c) (argSdy m c)

/-- Its one cell, read. -/
theorem res5_apply (c : Dev nD) (j : S1x1.Idx) : res5 m c j = Spec.amax (argX m c) (argSx m c) (argDy m c) (argSdy m c) := rfl

/-- The output windows' one block starts at the origin. -/
theorem idx_out : ∀ t : Fin cfg0.N, (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The last grid point. -/
abbrev tLast : Fin cfg0.N := ⟨191, by rw [show cfg0.N = 192 from N_0]; decide⟩

/-- What is written back to the output array is the new main-grad, transposed. -/
theorem flushed4_eq (c : Dev nD) (t : Fin cfg0.N) (hf : (cfg0.win 4).flush t = true) :
    (dats m 0 c).flushed 4 t = ((cfg0.win 4).blk t).view.read (Elt Ideal) (res4 m c) := by
  have ht : t.val = 191 := by have := (flush0_4 t).mp hf; have := lt192 t; omega
  obtain ⟨⟨h0, h1⟩, -⟩ := idx_out t
  show (cfg0.win 4).cut (grid0.coords t) ((dats m 0 c).after 4 t) = _
  rw [after0_4]
  funext j
  rw [View.read_apply]
  have hj : (((cfg0.win 4).blk t).view.emb j : S832x1008.Idx) = ix2 (j 0) (j 1) := by
    funext a
    apply Fin.ext
    match a with
    | ⟨0, _⟩ => show win0_4.index t (0 : Fin 2) * 832 + 1 * (j 0).val = (j 0).val; omega
    | ⟨1, _⟩ => show win0_4.index t (1 : Fin 2) * 1008 + 1 * (j 1).val = (j 1).val; omega
  refine Eq.trans ?_ (congrArg (res4 m c) hj.symm)
  refine Eq.trans (congrArg (outsAt0 m c t.val t.isLt).1 ?_) (last_4 m c t ht (j 0) (j 1))
  exact eq_ix2 (n0 := 832) (n1 := 1008) j

/-- What is written back to the amax array is the amax. -/
theorem flushed5_eq (c : Dev nD) (t : Fin cfg0.N) (hf : (cfg0.win 5).flush t = true) :
    (dats m 0 c).flushed 5 t = ((cfg0.win 5).blk t).view.read (Elt Ideal) (res5 m c) := by
  have ht : t.val = 191 := by have := (flush0_5 t).mp hf; have := lt192 t; omega
  show (cfg0.win 5).cut (grid0.coords t) ((dats m 0 c).after 5 t) = _
  rw [after0_5]
  funext j
  rw [View.read_apply]
  refine Eq.trans ?_ (cast_eq _ _).symm
  rw [res5_apply]
  refine Eq.trans (congrArg (outsAt0 m c t.val t.isLt).2 ?_) (last_5 m c t ht (ix2 (j 0) (j 1)))
  exact eq_ix2 (n0 := 1) (n1 := 1) j

/-- So the output array ends holding the new main-grad, transposed. -/
theorem final4 (c : Dev nD) : (dats m 0 c).arrAt 4 cfg0.N = res4 m c :=
  (dats m 0 c).arrAt_eq_of_cover 4 (res4 m c) (flushed4_eq m c) fun i =>
    ⟨tLast, (flush0_4 tLast).mpr rfl, by
      obtain ⟨⟨h0, h1⟩, -⟩ := idx_out tLast
      show i ∈ ((View.whole main_v5_0).slice (win0_4.rect tLast)).set
      rw [View.set_slice_whole, Rect.mem_set_unit]
      intro a
      have i0 : (i 0 : Nat) < 832 := (i 0).isLt
      have i1 : (i 1 : Nat) < 1008 := (i 1).isLt
      match a with
      | ⟨0, _⟩ => show win0_4.index tLast (0 : Fin 2) * 832 ≤ (i 0 : Nat) ∧ (i 0 : Nat) < win0_4.index tLast (0 : Fin 2) * 832 + 832; omega
      | ⟨1, _⟩ => show win0_4.index tLast (1 : Fin 2) * 1008 ≤ (i 1 : Nat) ∧ (i 1 : Nat) < win0_4.index tLast (1 : Fin 2) * 1008 + 1008; omega⟩

/-- And the amax array the amax. -/
theorem final5 (c : Dev nD) : (dats m 0 c).arrAt 5 cfg0.N = res5 m c :=
  (dats m 0 c).arrAt_eq_of_cover 5 (res5 m c) (flushed5_eq m c) fun i =>
    ⟨tLast, (flush0_5 tLast).mpr rfl, by
      obtain ⟨-, ⟨h0, h1⟩⟩ := idx_out tLast
      show i ∈ ((View.whole main_v5_1).slice (win0_5.rect tLast)).set
      rw [View.set_slice_whole, Rect.mem_set_unit]
      intro a
      have i0 : (i 0 : Nat) < 1 := (i 0).isLt
      have i1 : (i 1 : Nat) < 1 := (i 1).isLt
      match a with
      | ⟨0, _⟩ => show win0_5.index tLast (0 : Fin 2) * 1 ≤ (i 0 : Nat) ∧ (i 0 : Nat) < win0_5.index tLast (0 : Fin 2) * 1 + 1; omega
      | ⟨1, _⟩ => show win0_5.index tLast (1 : Fin 2) * 1 ≤ (i 1 : Nat) ∧ (i 1 : Nat) < win0_5.index tLast (1 : Fin 2) * 1 + 1; omega⟩

/-- The buffers when the region has ended. -/
abbrev W (c : Dev nD) : Valuation τ sig (Elt Ideal) :=
  Pipeline.withArrays spec0 c (V0 m c) fun w => (dats m 0 c).arrAt w cfg0.N

/-- The region's windows are on distinct arrays. -/
theorem arr_inj : Function.Injective (Pipeline.arrRef spec0) := by decide

/-- After the region, the output array holds the new main-grad, transposed. -/
theorem W_4 (c : Dev nD) : W m c (Proc.devRef .tc main_v5_0) = res4 m c :=
  (Pipeline.withArrays_arr spec0 arr_inj c (V0 m c) (fun w => (dats m 0 c).arrAt w cfg0.N) 4).trans (final4 m c)

/-- After the region, the amax array holds the amax. -/
theorem W_5 (c : Dev nD) : W m c (Proc.devRef .tc main_v5_1) = res5 m c :=
  (Pipeline.withArrays_arr spec0 arr_inj c (V0 m c) (fun w => (dats m 0 c).arrAt w cfg0.N) 5).trans (final5 m c)

/-- The first result, the new main-grad. -/
theorem tail_g (c : Dev nD) : Pipeline.afterTail₀ cfgs (dats m) 0 (V0 m) [hostOps1] c main_v6
    = Spec.mainGrad (argX m c) (argSx m c) (argDy m c) (argSdy m c) (argG m c) := by
  unfold Pipeline.afterTail₀
  simp only [List.flatten_cons, List.flatten_nil, List.append_nil]
  show StableHlo.after hostOps1 (W m c) (Proc.devRef .tc main_v6) = _
  unfold hostOps1
  after_results
  rw [W_4]
  funext j
  obtain ⟨i, o, rfl⟩ : ∃ i o, j = ix2 i o := ⟨_, _, eq_ix2 j⟩
  exact transpose_ix2_apply (res4 m c) _ i o

/-- The second result, the amax. -/
theorem tail_a (c : Dev nD) : Pipeline.afterTail₀ cfgs (dats m) 0 (V0 m) [hostOps1] c main_v7
    = fun _ => Spec.amax (argX m c) (argSx m c) (argDy m c) (argSdy m c) := by
  unfold Pipeline.afterTail₀
  simp only [List.flatten_cons, List.flatten_nil, List.append_nil]
  show StableHlo.after hostOps1 (W m c) (Proc.devRef .tc main_v7) = _
  unfold hostOps1
  after_results
  rw [W_5]
  funext j
  exact res5_apply m c _

/-- The kernel's run: both results at the mathematics' values. -/
theorem run : θ_run defs (onTc (τ := τ) (main (F := Ideal))) ⟨m, fun _ => 0, ρ⟩ fun r => ∀ c : Dev nD,
      r.2.mem ((c : Thread nD τ).loc main_v6) = Spec.mainGrad (argX m c) (argSx m c) (argDy m c) (argSdy m c) (argG m c)
      ∧ r.2.mem ((c : Thread nD τ).loc main_v7) = (fun _ => Spec.amax (argX m c) (argSx m c) (argDy m c) (argSdy m c)) :=
  (θ_run defs _ _).mono (fun r h c =>
    ⟨((h c).2 main_v6 (Pipeline.mem_restRefs_of main_v6 (by decide) (by decide))).trans (tail_g m c),
     ((h c).2 main_v7 (Pipeline.mem_restRefs_of main_v7 (by decide) (by decide))).trans (tail_a m c)⟩)
    (run_main m ρ)

end Cert.KernelIdeal.Value

end
-- ==== Proof.ReferenceCasts.lean ====
/-
  What the reference's two cast arrays hold when its cast region ends: each is its argument array, element by element,
  in the wider format.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The zero offsets of a rank-3 block. -/
theorem hz2 : (![0, 0, 0] : Fin 3 → Nat) = fun _ => 0 := funext fun a => by fin_cases a <;> rfl

/-- What the window's array ends holding where covered: the body's pointwise operations (extf) of the argument
    arrays the body reads, index by index. -/
abbrev G2 (a0 : S32x12288x1008.Idx → Elt F .fp8e4m3) : S32x12288x1008.Idx → Elt F .bf16 := fun i => FloatOps.extf .bf16 bitsLt_fp8e4m3_bf16 (a0 i)

/-- The body's payload is that tree of operations of its loaded blocks. -/
theorem pay2_eq (x0 : Vec F S32x12288x1008 .fp8e4m3) : k0_pay1 x0 = extf .bf16 x0 bitsLt_fp8e4m3_bf16 := rfl

/-- The printed index maps, decided over the grid: each input window the payload reads moves with output window 2 at a
    constant block offset per axis, and the output's block indices stay in their ranges. -/
theorem idx_facts2 : ∀ t : Fin cfg0.N, win0_0.index t (0 : Fin 3) = win0_2.index t (0 : Fin 3) + 0
    ∧ win0_0.index t (1 : Fin 3) = win0_2.index t (1 : Fin 3) + 0
    ∧ win0_0.index t (2 : Fin 3) = win0_2.index t (2 : Fin 3) + 0
    ∧ 0 ≤ win0_2.index t (0 : Fin 3) ∧ win0_2.index t (0 : Fin 3) ≤ 0
    ∧ 0 ≤ win0_2.index t (1 : Fin 3) ∧ win0_2.index t (1 : Fin 3) ≤ 0
    ∧ 0 ≤ win0_2.index t (2 : Fin 3) ∧ win0_2.index t (2 : Fin 3) ≤ 0 :=
  (by decide +kernel : ∀ t : Fin grid0.N, _)

/-- Every block of the covered box is some point's. -/
theorem idx_onto2 : ∀ (q0 : Fin 1) (q1 : Fin 1) (q2 : Fin 1), ∃ t : Fin cfg0.N, win0_2.index t = ![q0.val + 0, q1.val + 0, q2.val + 0] :=
  (by decide +kernel : ∀ (q0 : Fin 1) (q1 : Fin 1) (q2 : Fin 1), ∃ t : Fin grid0.N, win0_2.index t = ![q0.val + 0, q1.val + 0, q2.val + 0])

/-- What the one point writes back is block `t` of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2]
  unfold out0_2
  rw [View.canon_unit_zero hz2]
  simp only [View.ld_unit_zero (S := S32x12288x1008) hz2]
  rw [pay2_eq]
  obtain ⟨e0, e1, e2, e3, e4, e5⟩ := idx_facts2 t
  funext j
  show FloatOps.extf .bf16 bitsLt_fp8e4m3_bf16 (V m c main_arg0 (((cfg0.win 0).blk t).view.emb j)) = FloatOps.extf .bf16 bitsLt_fp8e4m3_bf16 (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 3) * 32 + 1 * (j 0).val = win0_2.index t (0 : Fin 3) * 32 + 1 * (j 0).val; have hj : (j 0).val < 32 := (j 0).isLt; omega
    | ⟨1, _⟩ => show win0_0.index t (1 : Fin 3) * 12288 + 1 * (j 1).val = win0_2.index t (1 : Fin 3) * 12288 + 1 * (j 1).val; have hj : (j 1).val < 12288 := (j 1).isLt; omega
    | ⟨2, _⟩ => show win0_0.index t (2 : Fin 3) * 1008 + 1 * (j 2).val = win0_2.index t (2 : Fin 3) * 1008 + 1 * (j 2).val; have hj : (j 2).val < 1008 := (j 2).isLt; omega
  rw [h0]

/-- An index of the array is in point `t`'s block iff each coordinate is in the block's range on its axis. -/
theorem mem_blk2 (t : Fin cfg0.N) (i : S32x12288x1008.Idx) :
    i ∈ ((cfg0.win 2).blk t).view.set ↔ ∀ a : Fin 3, win0_2.index t a * S32x12288x1008.size a ≤ (i a).val ∧ (i a).val < win0_2.index t a * S32x12288x1008.size a + S32x12288x1008.size a := by
  show i ∈ ((View.whole main_v0_0).slice (win0_2.rect t)).set ↔ _
  rw [View.set_slice_whole, Rect.mem_set_unit]
  exact Iff.rfl

/-- Covered indices: in some point's block iff inside the box the output's blocks fill. -/
theorem covered_iff2 (i : S32x12288x1008.Idx) :
    (∃ t : Fin cfg0.N, (cfg0.win 2).flush t = true ∧ i ∈ ((cfg0.win 2).blk t).view.set) ↔ 0 ≤ (i 0).val ∧ (i 0).val < 32 ∧ 0 ≤ (i 1).val ∧ (i 1).val < 12288 ∧ 0 ≤ (i 2).val ∧ (i 2).val < 1008 := by
  constructor
  · rintro ⟨t, -, hi⟩
    rw [mem_blk2] at hi
    have b0 : win0_2.index t (0 : Fin 3) * 32 ≤ (i 0).val ∧ (i 0).val < win0_2.index t (0 : Fin 3) * 32 + 32 := hi 0
    have b1 : win0_2.index t (1 : Fin 3) * 12288 ≤ (i 1).val ∧ (i 1).val < win0_2.index t (1 : Fin 3) * 12288 + 12288 := hi 1
    have b2 : win0_2.index t (2 : Fin 3) * 1008 ≤ (i 2).val ∧ (i 2).val < win0_2.index t (2 : Fin 3) * 1008 + 1008 := hi 2
    obtain ⟨e0, e1, e2, e3, e4, e5⟩ := idx_facts2 t
    omega
  · intro h
    have hi0 : (i 0).val < 32 := (i 0).isLt
    have hi1 : (i 1).val < 12288 := (i 1).isLt
    have hi2 : (i 2).val < 1008 := (i 2).isLt
    obtain ⟨t, ht⟩ := idx_onto2 ⟨(i 0).val / 32 - 0, by omega⟩ ⟨(i 1).val / 12288 - 0, by omega⟩ ⟨(i 2).val / 1008 - 0, by omega⟩
    have q0 : win0_2.index t (0 : Fin 3) = (i 0).val / 32 - 0 + 0 := congrFun ht 0
    have q1 : win0_2.index t (1 : Fin 3) = (i 1).val / 12288 - 0 + 0 := congrFun ht 1
    have q2 : win0_2.index t (2 : Fin 3) = (i 2).val / 1008 - 0 + 0 := congrFun ht 2
    refine ⟨t, flush0_2 t, ?_⟩
    rw [mem_blk2]
    intro a
    match a with
    | ⟨0, _⟩ => show win0_2.index t (0 : Fin 3) * 32 ≤ (i 0).val ∧ (i 0).val < win0_2.index t (0 : Fin 3) * 32 + 32; omega
    | ⟨1, _⟩ => show win0_2.index t (1 : Fin 3) * 12288 ≤ (i 1).val ∧ (i 1).val < win0_2.index t (1 : Fin 3) * 12288 + 12288; omega
    | ⟨2, _⟩ => show win0_2.index t (2 : Fin 3) * 1008 ≤ (i 2).val ∧ (i 2).val < win0_2.index t (2 : Fin 3) * 1008 + 1008; omega

/-- The array after the run: `G2` of the argument arrays (the blocks tile it). -/
theorem final2 (c : Dev nD) : (dats m 0 c).arrAt 2 cfg0.N = G2 (m ((c : Thread nD τ).loc main_arg0)) :=
  (dats m 0 c).arrAt_eq_of_cover 2 _ (fun t _ => flushed2_eq m c t) (fun i => (covered_iff2 i).2 (by
    have h0 : (i 0).val < 32 := (i 0).isLt; have h1 : (i 1).val < 12288 := (i 1).isLt; have h2 : (i 2).val < 1008 := (i 2).isLt; omega))

/-! ## Output window 3 -/

/-- The zero offsets of a rank-3 block. -/
theorem hz3 : (![0, 0, 0] : Fin 3 → Nat) = fun _ => 0 := funext fun a => by fin_cases a <;> rfl

/-- What the window's array ends holding where covered: the body's pointwise operations (extf) of the argument
    arrays the body reads, index by index. -/
abbrev G3 (a0 : S32x12288x832.Idx → Elt F .fp8e5m2) : S32x12288x832.Idx → Elt F .bf16 := fun i => FloatOps.extf .bf16 bitsLt_fp8e5m2_bf16 (a0 i)

/-- The body's payload is that tree of operations of its loaded blocks. -/
theorem pay3_eq (x0 : Vec F S32x12288x832 .fp8e5m2) : k0_pay2 x0 = extf .bf16 x0 bitsLt_fp8e5m2_bf16 := rfl

/-- The printed index maps, decided over the grid: each input window the payload reads moves with output window 3 at a
    constant block offset per axis, and the output's block indices stay in their ranges. -/
theorem idx_facts3 : ∀ t : Fin cfg0.N, win0_1.index t (0 : Fin 3) = win0_3.index t (0 : Fin 3) + 0
    ∧ win0_1.index t (1 : Fin 3) = win0_3.index t (1 : Fin 3) + 0
    ∧ win0_1.index t (2 : Fin 3) = win0_3.index t (2 : Fin 3) + 0
    ∧ 0 ≤ win0_3.index t (0 : Fin 3) ∧ win0_3.index t (0 : Fin 3) ≤ 0
    ∧ 0 ≤ win0_3.index t (1 : Fin 3) ∧ win0_3.index t (1 : Fin 3) ≤ 0
    ∧ 0 ≤ win0_3.index t (2 : Fin 3) ∧ win0_3.index t (2 : Fin 3) ≤ 0 :=
  (by decide +kernel : ∀ t : Fin grid0.N, _)

/-- Every block of the covered box is some point's. -/
theorem idx_onto3 : ∀ (q0 : Fin 1) (q1 : Fin 1) (q2 : Fin 1), ∃ t : Fin cfg0.N, win0_3.index t = ![q0.val + 0, q1.val + 0, q2.val + 0] :=
  (by decide +kernel : ∀ (q0 : Fin 1) (q1 : Fin 1) (q2 : Fin 1), ∃ t : Fin grid0.N, win0_3.index t = ![q0.val + 0, q1.val + 0, q2.val + 0])

/-- What the one point writes back is block `t` of `G3` of the argument arrays as the region finds them. -/
theorem flushed3_eq (c : Dev nD) (t : Fin cfg0.N) :
    (dats m 0 c).flushed 3 t = ((cfg0.win 3).blk t).view.read (Elt F) (G3 (V m c main_arg2)) := by
  show (cfg0.win 3).cut (grid0.coords t) ((dats m 0 c).after 3 t) = _
  rw [after0_3]
  unfold out0_3
  rw [View.canon_unit_zero hz3]
  simp only [View.ld_unit_zero (S := S32x12288x832) hz3]
  rw [pay3_eq]
  obtain ⟨e0, e1, e2, e3, e4, e5⟩ := idx_facts3 t
  funext j
  show FloatOps.extf .bf16 bitsLt_fp8e5m2_bf16 (V m c main_arg2 (((cfg0.win 1).blk t).view.emb j)) = FloatOps.extf .bf16 bitsLt_fp8e5m2_bf16 (V m c main_arg2 (((cfg0.win 3).blk t).view.emb j))
  have h0 : ((cfg0.win 1).blk t).view.emb j = ((cfg0.win 3).blk t).view.emb j := by
    funext a; apply Fin.ext
    match a with
    | ⟨0, _⟩ => show win0_1.index t (0 : Fin 3) * 32 + 1 * (j 0).val = win0_3.index t (0 : Fin 3) * 32 + 1 * (j 0).val; have hj : (j 0).val < 32 := (j 0).isLt; omega
    | ⟨1, _⟩ => show win0_1.index t (1 : Fin 3) * 12288 + 1 * (j 1).val = win0_3.index t (1 : Fin 3) * 12288 + 1 * (j 1).val; have hj : (j 1).val < 12288 := (j 1).isLt; omega
    | ⟨2, _⟩ => show win0_1.index t (2 : Fin 3) * 832 + 1 * (j 2).val = win0_3.index t (2 : Fin 3) * 832 + 1 * (j 2).val; have hj : (j 2).val < 832 := (j 2).isLt; omega
  rw [h0]

/-- An index of the array is in point `t`'s block iff each coordinate is in the block's range on its axis. -/
theorem mem_blk3 (t : Fin cfg0.N) (i : S32x12288x832.Idx) :
    i ∈ ((cfg0.win 3).blk t).view.set ↔ ∀ a : Fin 3, win0_3.index t a * S32x12288x832.size a ≤ (i a).val ∧ (i a).val < win0_3.index t a * S32x12288x832.size a + S32x12288x832.size a := by
  show i ∈ ((View.whole main_v0_1).slice (win0_3.rect t)).set ↔ _
  rw [View.set_slice_whole, Rect.mem_set_unit]
  exact Iff.rfl

/-- Covered indices: in some point's block iff inside the box the output's blocks fill. -/
theorem covered_iff3 (i : S32x12288x832.Idx) :
    (∃ t : Fin cfg0.N, (cfg0.win 3).flush t = true ∧ i ∈ ((cfg0.win 3).blk t).view.set) ↔ 0 ≤ (i 0).val ∧ (i 0).val < 32 ∧ 0 ≤ (i 1).val ∧ (i 1).val < 12288 ∧ 0 ≤ (i 2).val ∧ (i 2).val < 832 := by
  constructor
  · rintro ⟨t, -, hi⟩
    rw [mem_blk3] at hi
    have b0 : win0_3.index t (0 : Fin 3) * 32 ≤ (i 0).val ∧ (i 0).val < win0_3.index t (0 : Fin 3) * 32 + 32 := hi 0
    have b1 : win0_3.index t (1 : Fin 3) * 12288 ≤ (i 1).val ∧ (i 1).val < win0_3.index t (1 : Fin 3) * 12288 + 12288 := hi 1
    have b2 : win0_3.index t (2 : Fin 3) * 832 ≤ (i 2).val ∧ (i 2).val < win0_3.index t (2 : Fin 3) * 832 + 832 := hi 2
    obtain ⟨e0, e1, e2, e3, e4, e5⟩ := idx_facts3 t
    omega
  · intro h
    have hi0 : (i 0).val < 32 := (i 0).isLt
    have hi1 : (i 1).val < 12288 := (i 1).isLt
    have hi2 : (i 2).val < 832 := (i 2).isLt
    obtain ⟨t, ht⟩ := idx_onto3 ⟨(i 0).val / 32 - 0, by omega⟩ ⟨(i 1).val / 12288 - 0, by omega⟩ ⟨(i 2).val / 832 - 0, by omega⟩
    have q0 : win0_3.index t (0 : Fin 3) = (i 0).val / 32 - 0 + 0 := congrFun ht 0
    have q1 : win0_3.index t (1 : Fin 3) = (i 1).val / 12288 - 0 + 0 := congrFun ht 1
    have q2 : win0_3.index t (2 : Fin 3) = (i 2).val / 832 - 0 + 0 := congrFun ht 2
    refine ⟨t, flush0_3 t, ?_⟩
    rw [mem_blk3]
    intro a
    match a with
    | ⟨0, _⟩ => show win0_3.index t (0 : Fin 3) * 32 ≤ (i 0).val ∧ (i 0).val < win0_3.index t (0 : Fin 3) * 32 + 32; omega
    | ⟨1, _⟩ => show win0_3.index t (1 : Fin 3) * 12288 ≤ (i 1).val ∧ (i 1).val < win0_3.index t (1 : Fin 3) * 12288 + 12288; omega
    | ⟨2, _⟩ => show win0_3.index t (2 : Fin 3) * 832 ≤ (i 2).val ∧ (i 2).val < win0_3.index t (2 : Fin 3) * 832 + 832; omega

/-- The array after the run: `G3` of the argument arrays (the blocks tile it). -/
theorem final3 (c : Dev nD) : (dats m 0 c).arrAt 3 cfg0.N = G3 (m ((c : Thread nD τ).loc main_arg2)) :=
  (dats m 0 c).arrAt_eq_of_cover 3 _ (fun t _ => flushed3_eq m c t) (fun i => (covered_iff3 i).2 (by
    have h0 : (i 0).val < 32 := (i 0).isLt; have h1 : (i 1).val < 12288 := (i 1).isLt; have h2 : (i 2).val < 832 := (i 2).isLt; omega))

end Cert.ReferenceIdeal.Value

end
-- ==== Proof.ReferenceRun.lean ====
/-
  What the reference computes, over the extended reals: its two results are the new main-grad and the amax of `Spec`.
-/
module

public import proofs.«01_k».proof.Proof.Spec
public import proofs.«01_k».proof.Proof.ReferenceCasts
public import Idealize.ShloMosaic.Lib.StableHlo.Run
public import Idealize.ShloMosaic.Lib.TwoAxisContraction
public import Idealize.ShloMosaic.Lib.MatmulPlain
public import Idealize.ShloMosaic.Lib.IdealHost
public import Idealize.ShloMosaic.Lib.Tactic

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)
open Idealize.ShloMosaic.ValueIdx Idealize.ShloMosaic.StableHlo
open scoped BigOperators

/-- The contraction over batch and token, read at `(i, o)`. -/
theorem dot_apply (x : FVec Ideal S32x12288x1008 .bf16) (dy : FVec Ideal S32x12288x832 .bf16) (i : Fin 1008) (o : Fin 832) :
    (Host.dotGeneral dot_S32x12288x1008_S32x12288x832_S1008x832_01_01_2_2_n_n none x dy (ix2 i o) : EReal)
      = Spec.dot x dy i o := by
  let D := dot_S32x12288x1008_S32x12288x832_S1008x832_01_01_2_2_n_n
  have hr : D.contr.rank = 2 := rfl
  have c0 : D.contr.size ⟨0, by rw [hr]; omega⟩ = 32 := rfl
  have c1 : D.contr.size ⟨1, by rw [hr]; omega⟩ = 12288 := rfl
  unfold Host.dotGeneral
  rw [Ideal.dotGeneral_apply, ← Equiv.sum_comp (contrEquiv2 D 32 12288 hr c0 c1).symm, Fintype.sum_prod_type]
  unfold Spec.dot
  refine Finset.sum_congr rfl fun b _ => Finset.sum_congr rfl fun t _ => ?_
  have h0 := contrEquiv2_symm_val0 D 32 12288 hr c0 c1 (b, t)
  have h1 := contrEquiv2_symm_val1 D 32 12288 hr c0 c1 (b, t)
  have el : D.lhsIdx (ix2 i o) ((contrEquiv2 D 32 12288 hr c0 c1).symm (b, t)) = ix3 b t i := by
    funext a; apply Fin.ext
    match a with
    | ⟨0, _⟩ => exact h0
    | ⟨1, _⟩ => exact h1
    | ⟨2, _⟩ => rfl
  have er : D.rhsIdx (ix2 i o) ((contrEquiv2 D 32 12288 hr c0 c1).symm (b, t)) = ix3 b t o := by
    funext a; apply Fin.ext
    match a with
    | ⟨0, _⟩ => exact h0
    | ⟨1, _⟩ => exact h1
    | ⟨2, _⟩ => rfl
  rw [el, er]

/-- The indices of a `[1008, 832]` array as pairs. -/
def pairs : S1008x832.Idx ≃ Fin 1008 × Fin 832 where
  toFun j := (j 0, j 1)
  invFun p := ix2 p.1 p.2
  left_inv j := (eq_ix2 j).symm
  right_inv _ := rfl

/-- The reduction to a scalar by maximum, started from `-∞`, is the fold of `max` over the pairs of columns. -/
theorem reduce_eq (v : FVec Ideal S1008x832 .f32) (j : S_.Idx) :
    Host.reduce FloatOps.maximumf v (constant S_ .f32 0xFF800000#32 : FVec Ideal S_ .f32) reducesTo_S1008x832_S_d0_1 h_S_ j
      = (Finset.univ : Finset (Fin 1008 × Fin 832)).fold max
        (FloatOps.ofBits (F := Ideal) .f32 0xFF800000#32 : EReal) fun p => (v (ix2 p.1 p.2) : EReal) := by
  refine (Host.reduce_eq_fold FloatOps.maximumf v _ _ _ j).trans ?_
  rw [Finset.filter_true_of_mem (fun i _ => (eq_ix0 _).trans (eq_ix0 _).symm), ← Spec.fold_max_equiv pairs]
  refine Finset.fold_congr fun i _ => ?_
  exact congrArg v (eq_ix2 i)

variable (m : (ℓ : Loc nD τ sig) → Buf (Elt Ideal) ℓ) (ρ : Dev nD → PrngReg)

/-- The activations, the activation scale, the gradients, the gradient scale and the old main-grad, as extended reals. -/
abbrev argX (c : Dev nD) : S32x12288x1008.Idx → EReal := m ((c : Thread nD τ).loc main_arg0)
abbrev argSx (c : Dev nD) : S_.Idx → EReal := m ((c : Thread nD τ).loc main_arg1)
abbrev argDy (c : Dev nD) : S32x12288x832.Idx → EReal := m ((c : Thread nD τ).loc main_arg2)
abbrev argSdy (c : Dev nD) : S_.Idx → EReal := m ((c : Thread nD τ).loc main_arg3)
abbrev argG (c : Dev nD) : S1008x832.Idx → EReal := m ((c : Thread nD τ).loc main_arg4)

/-- The buffers when the cast region has ended. -/
abbrev W (c : Dev nD) : Valuation τ sig (Elt Ideal) :=
  Pipeline.withArrays spec0 c (V0 m c) fun w => (dats m 0 c).arrAt w cfg0.N

/-- The region's windows are on distinct arrays. -/
theorem arr_inj : Function.Injective (Pipeline.arrRef spec0) := by decide

/-- The cast activations are the activations. -/
theorem W_x (c : Dev nD) : W m c (Proc.devRef .tc main_v0_0) = argX m c :=
  (Pipeline.withArrays_arr spec0 arr_inj c (V0 m c) (fun w => (dats m 0 c).arrAt w cfg0.N) 2).trans (final2 m c)

/-- The cast gradients are the gradients. -/
theorem W_dy (c : Dev nD) : W m c (Proc.devRef .tc main_v0_1) = argDy m c :=
  (Pipeline.withArrays_arr spec0 arr_inj c (V0 m c) (fun w => (dats m 0 c).arrAt w cfg0.N) 3).trans (final3 m c)

/-- The activation scale is as launched. -/
theorem W_sx (c : Dev nD) : W m c (Proc.devRef .tc main_arg1) = argSx m c :=
  (Pipeline.withArrays_of_ne spec0 c (V0 m c) _ main_arg1 (by exact (by decide : ∀ w, Pipeline.arrRef spec0 w ≠ main_arg1))).trans (V_main_arg1 m c)

/-- The gradient scale is as launched. -/
theorem W_sdy (c : Dev nD) : W m c (Proc.devRef .tc main_arg3) = argSdy m c :=
  (Pipeline.withArrays_of_ne spec0 c (V0 m c) _ main_arg3 (by exact (by decide : ∀ w, Pipeline.arrRef spec0 w ≠ main_arg3))).trans (V_main_arg3 m c)

/-- The main-grad is as launched. -/
theorem W_g (c : Dev nD) : W m c (Proc.devRef .tc main_arg4) = argG m c :=
  (Pipeline.withArrays_of_ne spec0 c (V0 m c) _ main_arg4 (by exact (by decide : ∀ w, Pipeline.arrRef spec0 w ≠ main_arg4))).trans (V_main_arg4 m c)

/-- The scaled gradient as the reference's operations compose it, read at `(i, o)`. -/
theorem grad_apply (x : FVec Ideal S32x12288x1008 .bf16) (sx : FVec Ideal S_ .f32) (dy : FVec Ideal S32x12288x832 .bf16)
    (sdy : FVec Ideal S_ .f32) (i : Fin 1008) (o : Fin 832) :
    (mulf (Host.dotGeneral dot_S32x12288x1008_S32x12288x832_S1008x832_01_01_2_2_n_n none x dy)
      (broadcastInDim S1008x832 ![] bcast_S_S1008x832 (mulf sx sdy)) (ix2 i o) : EReal) = Spec.grad x sx dy sdy i o := by
  show (Host.dotGeneral dot_S32x12288x1008_S32x12288x832_S1008x832_01_01_2_2_n_n none x dy (ix2 i o)
    * broadcastInDim S1008x832 ![] bcast_S_S1008x832 (mulf sx sdy) (ix2 i o) : EReal) = _
  rw [dot_apply]
  unfold Spec.grad
  exact congrArg (Spec.dot x dy i o * ·) (congrArg (mulf sx sdy) (eq_ix0 _))

/-- The first result, the new main-grad. -/
theorem tail_g (c : Dev nD) : Pipeline.afterTail₀ cfgs (dats m) 0 (V0 m) [hostOps1] c main_v7
    = Spec.mainGrad (argX m c) (argSx m c) (argDy m c) (argSdy m c) (argG m c) := by
  unfold Pipeline.afterTail₀
  simp only [List.flatten_cons, List.flatten_nil, List.append_nil]
  show StableHlo.after hostOps1 (W m c) (Proc.devRef .tc main_v7) = _
  unfold hostOps1
  after_results
  rw [W_x, W_dy, W_sx, W_sdy, W_g]
  funext j
  obtain ⟨i, o, rfl⟩ : ∃ i o, j = ix2 i o := ⟨_, _, eq_ix2 j⟩
  exact congrArg (argG m c (ix2 i o) + ·) (grad_apply _ _ _ _ i o)

/-- The second result, the amax. -/
theorem tail_a (c : Dev nD) : Pipeline.afterTail₀ cfgs (dats m) 0 (V0 m) [hostOps1] c main_v6
    = fun _ => Spec.amax (argX m c) (argSx m c) (argDy m c) (argSdy m c) := by
  unfold Pipeline.afterTail₀
  simp only [List.flatten_cons, List.flatten_nil, List.append_nil]
  show StableHlo.after hostOps1 (W m c) (Proc.devRef .tc main_v6) = _
  unfold hostOps1
  after_results
  rw [W_x, W_dy, W_sx, W_sdy]
  funext j
  refine (reduce_eq _ j).trans (Finset.fold_congr fun p _ => ?_)
  exact congrArg Spec.mag (grad_apply _ _ _ _ p.1 p.2)

/-- The reference's run: both results at the mathematics' values. -/
theorem run : θ_run defs (onTc (τ := τ) (main (F := Ideal))) ⟨m, fun _ => 0, ρ⟩ fun r => ∀ c : Dev nD,
      r.2.mem ((c : Thread nD τ).loc main_v7) = Spec.mainGrad (argX m c) (argSx m c) (argDy m c) (argSdy m c) (argG m c)
      ∧ r.2.mem ((c : Thread nD τ).loc main_v6) = (fun _ => Spec.amax (argX m c) (argSx m c) (argDy m c) (argSdy m c)) :=
  (θ_run defs _ _).mono (fun r h c =>
    ⟨((h c).2 main_v7 (Pipeline.mem_restRefs_of main_v7 (by decide) (by decide))).trans (tail_g m c),
     ((h c).2 main_v6 (Pipeline.mem_restRefs_of main_v6 (by decide) (by decide))).trans (tail_a m c)⟩)
    (run_main m ρ)

end Cert.ReferenceIdeal.Value

end
-- ==== Proof.lean ====
/-
  The proof of `Cert.Claim` (proofs.«01_k».proof.Defs): the three frames, the idealization, and the value claim. Both
  programs run to the same two values of `Cert.Spec`, the new main-grad and the amax.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The kernel and the reference end with equal results: the new main-grad and the amax of the scaled weight gradient. -/
theorem algebraic : Cert.algebraic_KernelIdeal_ReferenceIdeal (hKernelIdeal := Cert.KernelIdeal.Gen.facts)
    (hReferenceIdeal := Cert.ReferenceIdeal.Gen.facts) := fun m g m' g' _ h => by
  refine ⟨_, _, (θ_run _ _ _).mono (fun r hr c => ⟨(hr.1 c).1, (hr.1 c).2, hr.2 c⟩)
      (θ_run_and (Cert.KernelIdeal.Value.run m g) (Cert.KernelIdeal.Gen.unchanged m g)), ?_⟩
  refine (θ_run _ _ _).mono (fun r hr c => ⟨(hr.1 c).1.trans ?_, (hr.1 c).2.trans ?_, hr.2 c⟩)
      (θ_run_and (Cert.ReferenceIdeal.Value.run m' g') (Cert.ReferenceIdeal.Gen.unchanged m' g'))
  · obtain ⟨h0, h1, h2, h3, h4⟩ := h c
    have hx : Cert.ReferenceIdeal.Value.argX m' c = Cert.KernelIdeal.Value.argX m c := h0
    have hsx : Cert.ReferenceIdeal.Value.argSx m' c = Cert.KernelIdeal.Value.argSx m c := h1
    have hdy : Cert.ReferenceIdeal.Value.argDy m' c = Cert.KernelIdeal.Value.argDy m c := h2
    have hsdy : Cert.ReferenceIdeal.Value.argSdy m' c = Cert.KernelIdeal.Value.argSdy m c := h3
    have hg : Cert.ReferenceIdeal.Value.argG m' c = Cert.KernelIdeal.Value.argG m c := h4
    rw [hx, hsx, hdy, hsdy, hg]
  · obtain ⟨h0, h1, h2, h3, -⟩ := h c
    have hx : Cert.ReferenceIdeal.Value.argX m' c = Cert.KernelIdeal.Value.argX m c := h0
    have hsx : Cert.ReferenceIdeal.Value.argSx m' c = Cert.KernelIdeal.Value.argSx m c := h1
    have hdy : Cert.ReferenceIdeal.Value.argDy m' c = Cert.KernelIdeal.Value.argDy m c := h2
    have hsdy : Cert.ReferenceIdeal.Value.argSdy m' c = Cert.KernelIdeal.Value.argSdy m c := h3
    rw [hx, hsx, hdy, hsdy]
    rfl

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
